-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S10000x8 : Shape := ⟨2, ![10000, 8]⟩
abbrev S8x128x128 : Shape := ⟨3, ![8, 128, 128]⟩
abbrev S400x10000 : Shape := ⟨2, ![400, 10000]⟩
abbrev S400x128 : Shape := ⟨2, ![400, 128]⟩
abbrev S400x8 : Shape := ⟨2, ![400, 8]⟩
abbrev S1x128x128 : Shape := ⟨3, ![1, 128, 128]⟩
abbrev S128x128 : Shape := ⟨2, ![128, 128]⟩
abbrev S400x1 : Shape := ⟨2, ![400, 1]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S10000x8, .f32⟩
  | .hbm, ⟨4, _⟩ => ⟨S8x128x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S400x8, .f32⟩
  | .local _ .vmem, ⟨6, _⟩ => ⟨S400x8, .f32⟩
  | .local _ .vmem, ⟨7, _⟩ => ⟨S8x128x128, .f32⟩
  | .local _ .vmem, ⟨8, _⟩ => ⟨S400x128, .f32⟩
  | .local _ .vmem, ⟨9, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S10000x128 : Shape := ⟨2, ![10000, 128]⟩
abbrev S10000x10000 : Shape := ⟨2, ![10000, 10000]⟩
abbrev S10000x8 : Shape := ⟨2, ![10000, 8]⟩
abbrev S8x128x128 : Shape := ⟨3, ![8, 128, 128]⟩
abbrev S1x10000x128 : Shape := ⟨3, ![1, 10000, 128]⟩
abbrev S8x10000x128 : Shape := ⟨3, ![8, 10000, 128]⟩
abbrev S10000x8x128 : Shape := ⟨3, ![10000, 8, 128]⟩
abbrev S10000x8x1 : Shape := ⟨3, ![10000, 8, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S10000x8, .f32⟩
  | .hbm, ⟨4, _⟩ => ⟨S8x128x128, .f32⟩
  | .hbm, ⟨5, _⟩ => ⟨S10000x128, .f32⟩
  | .hbm, ⟨6, _⟩ => ⟨S1x10000x128, .f32⟩
  | .hbm, ⟨7, _⟩ => ⟨S8x10000x128, .f32⟩
  | .hbm, ⟨8, _⟩ => ⟨S8x10000x128, .f32⟩
  | .hbm, ⟨9, _⟩ => ⟨S10000x8x128, .f32⟩
  | .hbm, ⟨10, _⟩ => ⟨S10000x8x1, .f32⟩
  | .hbm, ⟨11, _⟩ => ⟨S10000x8x128, .f32⟩
  | .hbm, ⟨12, _⟩ => ⟨S10000x8x128, .f32⟩
  | .hbm, ⟨13, _⟩ => ⟨S_, .f32⟩
  | .hbm, ⟨14, _⟩ => ⟨S10000x128, .f32⟩
  | .hbm, ⟨15, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Mix.Spec.lean ====
/-
  The function that both programs compute, written as sums over the extended reals, and the one arithmetic
  fact that relates their two ways of adding: eight terms added one after another to a starting value are
  that value plus their sum.
-/
module

public import Idealize.ShloMosaic.PureOps
public import Idealize.ShloMosaic.PureOps.Ideal
public import Idealize.ShloMosaic.Lib.ValueIdx
public import Mathlib.Algebra.BigOperators.Fin

@[expose] public section

noncomputable section

namespace Cert.Mix

open Idealize.ShloMosaic Idealize.ShloMosaic.ValueIdx
open scoped BigOperators

/-- One propagation step: row `r` of the adjacency matrix against feature column `f` of the input. -/
def hop {R : ℕ} (adj : (⟨2, ![R, 10000]⟩ : Shape).Idx → EReal) (x : (⟨2, ![10000, 128]⟩ : Shape).Idx → EReal)
    (r : Fin R) (f : Fin 128) : EReal :=
  ∑ j : Fin 10000, adj (ix2 r j) * x (ix2 j f)

/-- Expert `k`'s contribution to output `(r, c)`: its gate times the propagated row through its weight matrix. -/
def expert {R : ℕ} (adj : (⟨2, ![R, 10000]⟩ : Shape).Idx → EReal) (x : (⟨2, ![10000, 128]⟩ : Shape).Idx → EReal)
    (z : (⟨2, ![R, 8]⟩ : Shape).Idx → EReal) (w : (⟨3, ![8, 128, 128]⟩ : Shape).Idx → EReal)
    (r : Fin R) (c : Fin 128) (k : Fin 8) : EReal :=
  z (ix2 r k) * ∑ f : Fin 128, hop adj x r f * w (ix3 k f c)

/-- The layer on `R` rows: the residual row `res` plus the eight gated experts. `R` is 10000 for the whole
    array and 400 for one block of rows. -/
def layer {R : ℕ} (adj : (⟨2, ![R, 10000]⟩ : Shape).Idx → EReal) (x : (⟨2, ![10000, 128]⟩ : Shape).Idx → EReal)
    (res : (⟨2, ![R, 128]⟩ : Shape).Idx → EReal)
    (z : (⟨2, ![R, 8]⟩ : Shape).Idx → EReal) (w : (⟨3, ![8, 128, 128]⟩ : Shape).Idx → EReal)
    (i : (⟨2, ![R, 128]⟩ : Shape).Idx) : EReal :=
  res i + ∑ k : Fin 8, expert adj x z w (i 0) (i 1) k

/-- Eight terms added in order to `a` are `a` plus their sum. -/
theorem chain8 (a : EReal) (t : Fin 8 → EReal) :
    a + t 0 + t 1 + t 2 + t 3 + t 4 + t 5 + t 6 + t 7 = a + ∑ k, t k := by
  simp only [Fin.sum_univ_eight, add_assoc]

/-- Row `r` of a layer reads only row `r` of the adjacency matrix, of the residual and of the gates: two layers
    over different numbers of rows agree at two rows where these agree. -/
theorem layer_congr {R S : ℕ} {adj : (⟨2, ![R, 10000]⟩ : Shape).Idx → EReal} {adj' : (⟨2, ![S, 10000]⟩ : Shape).Idx → EReal}
    {x x' : (⟨2, ![10000, 128]⟩ : Shape).Idx → EReal} {res : (⟨2, ![R, 128]⟩ : Shape).Idx → EReal}
    {res' : (⟨2, ![S, 128]⟩ : Shape).Idx → EReal} {z : (⟨2, ![R, 8]⟩ : Shape).Idx → EReal}
    {z' : (⟨2, ![S, 8]⟩ : Shape).Idx → EReal} {w w' : (⟨3, ![8, 128, 128]⟩ : Shape).Idx → EReal}
    (i : (⟨2, ![R, 128]⟩ : Shape).Idx) (i' : (⟨2, ![S, 128]⟩ : Shape).Idx) (hc : i 1 = i' 1)
    (hadj : ∀ j : Fin 10000, adj (ix2 (i 0) j) = adj' (ix2 (i' 0) j)) (hx : x = x') (hres : res i = res' i')
    (hz : ∀ k : Fin 8, z (ix2 (i 0) k) = z' (ix2 (i' 0) k)) (hw : w = w') :
    layer adj x res z w i = layer adj' x' res' z' w' i' := by
  subst hx hw
  have hh : ∀ f, hop adj x (i 0) f = hop adj' x (i' 0) f := fun f => by simp only [hop, hadj]
  simp only [layer, expert, hres, hz, hh]
  rw [hc]

end Cert.Mix

end
-- ==== Proof.Mix.Block.lean ====
/-
  What the kernel's body computes at one grid point: its payload over the staged blocks, read at an index, is the
  layer of Mix/Spec.lean on the block's 400 rows.
-/
module

public import proofs.«01_k».proof.Proof.Mix.Spec
public import proofs.«01_k».proof.Proof.Gen.KernelIdeal.Frame
public import Idealize.ShloMosaic.Lib.MatmulPlain
public import Idealize.ShloMosaic.Lib.Pipeline.Value
public import Idealize.ShloMosaic.Lib.Pipeline.ValueKit.Tiles
public import Idealize.ShloMosaic.Lib.Pipeline.ValueKit.Acc
public import Idealize.ShloMosaic.PureOps.Ideal.Laws

@[expose] public section

noncomputable section

namespace Cert.Mix

open Cert.KernelIdeal Cert.KernelIdeal.Gen Idealize.ShloMosaic Idealize.ShloMosaic.ValueIdx
open scoped BigOperators

/-- The first product of the body, at `(r, f)`: the propagation step on the block's rows. -/
theorem hi_apply (adj : FVec Ideal S400x10000 .f32) (x : FVec Ideal S10000x128 .f32) (r : Fin 400) (f : Fin 128) :
    k0_pay2 (F := Ideal) adj x (ix2 r f) = hop adj x r f := by
  refine (Ideal.matmul_plain_apply (M := 400) (K := 10000) (N := 128) none adj x _ r f).trans ?_
  show Ideal.ofBits .f32 0x00000000#32 + _ = _
  rw [Ideal.ofBits_zero_f32, zero_add]
  rfl

/-- The body's load of expert `k`'s weight matrix from the staged weights. -/
abbrev slab (w : FVec Ideal S8x128x128 .f32) (k : Fin 8)
    (inb : ∀ a, (![k.val, 0, 0] : Fin 3 → ℕ) a + S1x128x128.size a ≤ S8x128x128.size a) : FVec Ideal S1x128x128 .f32 :=
  View.ld (e' := .f32) (Val := Elt Ideal) w (Rect.unit (s := S8x128x128) ![k.val, 0, 0] S1x128x128.size inb)

/-- Slice `k` of the staged weights with its leading unit axis dropped, at `(f, c)`. -/
theorem weight_apply (w : FVec Ideal S8x128x128 .f32) (k : Fin 8)
    (inb : ∀ a, (![k.val, 0, 0] : Fin 3 → ℕ) a + S1x128x128.size a ≤ S8x128x128.size a)
    (h : S1x128x128.ShapeCasts S128x128) (f c : Fin 128) :
    shapeCast S128x128 (slab w k inb) h (ix2 f c)
      = w (ix3 k f c) := by
  refine (shapeCast_dropUnit_apply ![128, 128] _ h (ix2 f c)).trans ?_
  refine View.ld_unit_apply_of (S := S8x128x128) (Val := Elt Ideal) (e := .f32) w ![k.val, 0, 0] S1x128x128.size inb _ (ix3 k f c) fun a => ?_
  match a with
  | ⟨0, _⟩ => rfl
  | ⟨1, _⟩ => exact (Nat.zero_add _).symm
  | ⟨2, _⟩ => exact (Nat.zero_add _).symm

/-- Column `k` of the staged gates, broadcast along the output features, at `(r, c)`. -/
theorem gate_apply (z : FVec Ideal S400x8 .f32) (k : Fin 8) (h : S400x8.Slices ![0, k.val] S400x1)
    (hb : S400x1.Broadcasts S400x128) (r : Fin 400) (c : Fin 128) :
    broadcastTo S400x128 (extractStridedSlice S400x1 ![0, k.val] z h) hb (ix2 r c) = z (ix2 r k) := by
  refine (broadcastTo_apply _ hb (ix2 r c) (ix2 r (0 : Fin 1)) fun a => ?_).trans ?_
  · match a with
    | ⟨0, _⟩ => rfl
    | ⟨1, _⟩ => rfl
  · refine extractStridedSlice_apply _ z h _ (ix2 r k) fun a => ?_
    match a with
    | ⟨0, _⟩ => exact (Nat.zero_add _).symm
    | ⟨1, _⟩ => rfl

/-- One expert of the body, at `(r, c)`: the gate's column times the product of the propagated rows with the
    expert's weights, for any expert `k`. -/
theorem term_apply (adj : FVec Ideal S400x10000 .f32) (x : FVec Ideal S10000x128 .f32) (z : FVec Ideal S400x8 .f32)
    (w : FVec Ideal S8x128x128 .f32) (k : Fin 8)
    (inb : ∀ a, (![k.val, 0, 0] : Fin 3 → ℕ) a + S1x128x128.size a ≤ S8x128x128.size a)
    (hc : S1x128x128.ShapeCasts S128x128) (h : S400x8.Slices ![0, k.val] S400x1) (hb : S400x1.Broadcasts S400x128)
    (r : Fin 400) (c : Fin 128) :
    mulf (F := Ideal) (φ := .f32) (broadcastTo S400x128 (extractStridedSlice S400x1 ![0, k.val] z h) hb)
        (matmul (φ₂ := .f32) dot_S400x128_S128x128_S400x128_1_0_0_1_n_n none (k0_pay2 (F := Ideal) adj x)
          (shapeCast S128x128 (slab w k inb) hc)
          (constant (F := Ideal) S400x128 .f32 0x00000000#32)) (ix2 r c)
      = expert adj x z w r c k := by
  rw [mulf_apply, gate_apply]
  unfold expert
  refine congrArg (z (ix2 r k) * ·) ?_
  refine (Ideal.matmul_plain_apply (M := 400) (K := 128) (N := 128) none _ _ _ r c).trans ?_
  rw [constant_apply, Ideal.ofBits_zero_f32, zero_add]
  refine Finset.sum_congr rfl fun f _ => ?_
  rw [hi_apply, weight_apply]

/-- The block that one grid point leaves in the output's staging buffer is the layer on the block's rows. -/
theorem out_apply (adj : FVec Ideal S400x10000 .f32) (x : FVec Ideal S10000x128 .f32) (res : FVec Ideal S400x128 .f32)
    (z : FVec Ideal S400x8 .f32) (w : FVec Ideal S8x128x128 .f32) :
    out0_5 (F := Ideal) adj x res z w = layer adj x res z w := by
  funext i
  obtain ⟨r, c, rfl⟩ : ∃ (r : Fin 400) (c : Fin 128), i = ix2 r c := ⟨i 0, i 1, eq_ix2 i⟩
  unfold layer
  rw [← chain8 (res (ix2 r c)) (expert adj x z w r c)]
  frame_out
  simp only [k0_pay1, k0_pay3, addf_apply]
  have e := fun k inb h => (term_apply adj x z w k inb shapeCasts_S1x128x128_S128x128 h broadcasts_S400x1_S400x128 r c).symm
  rw [e 0 inb_S8x128x128_S1x128x128_0_0_0 slices_S400x8_o0_0_S400x1,
    e 1 inb_S8x128x128_S1x128x128_1_0_0 slices_S400x8_o0_1_S400x1,
    e 2 inb_S8x128x128_S1x128x128_2_0_0 slices_S400x8_o0_2_S400x1,
    e 3 inb_S8x128x128_S1x128x128_3_0_0 slices_S400x8_o0_3_S400x1,
    e 4 inb_S8x128x128_S1x128x128_4_0_0 slices_S400x8_o0_4_S400x1,
    e 5 inb_S8x128x128_S1x128x128_5_0_0 slices_S400x8_o0_5_S400x1,
    e 6 inb_S8x128x128_S1x128x128_6_0_0 slices_S400x8_o0_6_S400x1,
    e 7 inb_S8x128x128_S1x128x128_7_0_0 slices_S400x8_o0_7_S400x1]
  rfl

end Cert.Mix

end
-- ==== Proof.Mix.Array.lean ====
/-
  The kernel's result array after the run: every grid point writes its own 400 rows, the 25 blocks cover the array, and
  each block is the layer's, so the array is the layer on all 10000 rows.
-/
module

public import proofs.«01_k».proof.Proof.Mix.Block
public import proofs.«01_k».proof.Proof.Gen.KernelIdeal.Value
public import Idealize.ShloMosaic.Lib.Pipeline.ValueKit.Geometry

@[expose] public section

noncomputable section

namespace Cert.Mix

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- Where each window's block lies at grid point `t`: the adjacency rows, the residual rows, the gates and the output move
    with the point; the whole input and the weights stay. -/
theorem idx_facts : ∀ t : Fin cfg0.N, win0_0.index t = ![t.val, 0] ∧ win0_1.index t = ![0, 0] ∧ win0_2.index t = ![t.val, 0]
    ∧ win0_3.index t = ![t.val, 0] ∧ win0_4.index t = ![0, 0, 0] ∧ win0_5.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![0, 0, 0] ∧ win0_5.index t = ![t.val, 0])

/-- The layer of device `c`'s argument arrays. -/
abbrev result (c : Dev nD) : Buf (Elt Ideal) ((c : Thread nD τ).loc main_v0) :=
  layer (R := 10000) (m ((c : Thread nD τ).loc main_arg1)) (m ((c : Thread nD τ).loc main_arg0))
    (m ((c : Thread nD τ).loc main_arg0)) (m ((c : Thread nD τ).loc main_arg3)) (m ((c : Thread nD τ).loc main_arg4))

/-- The result array after the last grid point. -/
theorem final (c : Dev nD) : (dats m 0 c).arrAt 5 cfg0.N = result m c := by
  refine (dats m 0 c).arrAt_eq_of_covers 5 _ (by decide +kernel) fun t hf y => ?_
  obtain ⟨e0, e1, e2, e3, e4, e5⟩ := idx_facts t
  blk_simp
  rw [after0_5, out_apply]
  -- a block's row `y 0` is the array's row `400 t + y 0` in every window that moves
  refine layer_congr (R := 400) (S := 10000) y ((win0_5.blk t).view.emb y) ?_ (fun j => ?_) ?_ ?_ (fun k => ?_) ?_
  · refine Fin.ext ?_
    blk_simp [e5]
  · refine congrArg (m ((c : Thread nD τ).loc main_arg1)) (Shape.idx_ext₂ ?_ ?_)
    · change _ = (((win0_5.blk t).view.emb y 0 : Fin _) : ℕ)
      blk_simp [e0, e5]
    · blk_simp [e0]
  · funext y'
    refine congrArg (m ((c : Thread nD τ).loc main_arg0)) (Shape.idx_ext₂ ?_ ?_)
    · blk_simp [e1]
    · blk_simp [e1]
  · refine congrArg (m ((c : Thread nD τ).loc main_arg0)) (Shape.idx_ext₂ ?_ ?_)
    · blk_simp [e2, e5]
    · blk_simp [e2, e5]
  · refine congrArg (m ((c : Thread nD τ).loc main_arg3)) (Shape.idx_ext₂ ?_ ?_)
    · change _ = (((win0_5.blk t).view.emb y 0 : Fin _) : ℕ)
      blk_simp [e3, e5]
    · blk_simp [e3]
  · funext y'
    refine congrArg (m ((c : Thread nD τ).loc main_arg4)) (funext fun a => Fin.ext ?_)
    match a with
    | ⟨0, _⟩ => blk_simp [e4]
    | ⟨1, _⟩ => blk_simp [e4]
    | ⟨2, _⟩ => blk_simp [e4]

end Cert.Mix

end
-- ==== Proof.Mix.Reference.lean ====
/-
  The reference's result, read at an index through the generated stages: the layer of Mix/Spec.lean on all 10000 rows,
  with the input as the residual.
-/
module

public import proofs.«01_k».proof.Proof.Mix.Spec
public import proofs.«01_k».proof.Proof.Gen.ReferenceIdeal.Read

@[expose] public section

noncomputable section

namespace Cert.Mix

open Cert.ReferenceIdeal Cert.ReferenceIdeal.Read Idealize.ShloMosaic Idealize.ShloMosaic.ValueIdx
open scoped BigOperators

variable (x : FVec Ideal S10000x128 .f32) (adj : FVec Ideal S10000x10000 .f32) (z : FVec Ideal S10000x8 .f32)
variable (w : FVec Ideal S8x128x128 .f32)

/-- The gated, transposed batch of products at node `r`, expert `k`, feature `c` is that expert's contribution. -/
theorem ref_expert (r : Fin 10000) (k : Fin 8) (c : Fin 128) :
    val_main_v7 (F := Ideal) x adj z w (ix3 r k c) = expert adj x z w r c k := by
  rw [val_main_v7_apply, val_main_v6_apply, val_main_v5_apply, val_main_v4_apply, val_main_v3_apply]
  unfold expert
  refine congrArg₂ (· * ·) (congrArg z ?_) (Finset.sum_congr rfl fun f _ => congrArg₂ (· * ·) ?_ (congrArg w ?_))
  · funext a; match a with
    | ⟨0, _⟩ => rfl
    | ⟨1, _⟩ => rfl
  · rw [val_main_v2_apply, val_main_v1_apply, val_main_v0_apply]
    refine Finset.sum_congr rfl fun j _ => congrArg₂ (· * ·) (congrArg adj ?_) (congrArg x ?_)
    · funext a; match a with
      | ⟨0, _⟩ => rfl
      | ⟨1, _⟩ => rfl
    · funext a; match a with
      | ⟨0, _⟩ => rfl
      | ⟨1, _⟩ => rfl
  · funext a; match a with
    | ⟨0, _⟩ => rfl
    | ⟨1, _⟩ => rfl
    | ⟨2, _⟩ => rfl

/-- The reference's result is the layer on the whole arrays. -/
theorem ref_eq : val_main_v9 (F := Ideal) x adj z w = layer adj x x z w := by
  funext i
  rw [val_main_v9_apply, val_main_v8_apply, val_main_cst_apply]
  show (Ideal.ofBits .f32 0x00000000#32 + _) + x i = _
  rw [Ideal.ofBits_zero_f32, zero_add, add_comm]
  refine congrArg (x i + ·) (Finset.sum_congr rfl fun k _ => ?_)
  refine Eq.trans (congrArg _ ?_) (ref_expert x adj z w (i 0) k (i 1))
  funext a; match a with
  | ⟨0, _⟩ => rfl
  | ⟨1, _⟩ => rfl
  | ⟨2, _⟩ => rfl

end Cert.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Mix.Array
public import proofs.«01_k».proof.Proof.Mix.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run leaves its arguments unchanged, and it has no semaphore to leave nonzero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From memories that agree on the arguments, the kernel and the reference both end with the layer of those arguments as
    their result. -/
theorem algebraic : Cert.algebraic_KernelIdeal_ReferenceIdeal := by
  intro m ρ m' ρ' _ hagree
  refine ⟨fun c => Cert.Mix.result m c, ?_, ?_⟩
  · exact (θ_run Cert.KernelIdeal.defs _ _).mono
      (fun _ h c => ⟨(h c).1.trans (Cert.Mix.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, -, h3, h4⟩ := hagree c
    refine ((Cert.ReferenceIdeal.Read.val_main_v9_eq ..).trans (Cert.Mix.ref_eq ..)).trans ?_
    rw [h0, h1, h3, h4]

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
